-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S1024x64 : Shape := ⟨2, ![1024, 64]⟩
abbrev S100000x64 : Shape := ⟨2, ![100000, 64]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S1024x64 .f32) (main_arg1 : FVec F S100000x64 .f32) (main_arg2 : IVec S100000 32) (main_arg3 : IVec S_ 32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 32 := constantI S_ 32 100#32
  let main_v2 : IVec S100000 32 := broadcastInDim S100000 ![] bcast_S_S100000 main_c_0
  let main_v3 : IVec S100000 1 := cmpi .slt main_arg2 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S1024x64 : Shape := ⟨2, ![1024, 64]⟩
abbrev S100000x64 : Shape := ⟨2, ![100000, 64]⟩
abbrev S100000 : Shape := ⟨1, ![100000]⟩
abbrev S_ : Shape := ⟨0, ![]⟩
abbrev S64x1024 : Shape := ⟨2, ![64, 1024]⟩
abbrev S64x100000 : Shape := ⟨2, ![64, 100000]⟩
abbrev S100352 : Shape := ⟨1, ![100352]⟩
abbrev S1x1x100352 : Shape := ⟨3, ![1, 1, 100352]⟩
abbrev S1 : Shape := ⟨1, ![1]⟩
abbrev S128x1024 : Shape := ⟨2, ![128, 1024]⟩
abbrev S64x12544 : Shape := ⟨2, ![64, 12544]⟩
abbrev S1024x128 : Shape := ⟨2, ![1024, 128]⟩
abbrev S1024x12544 : Shape := ⟨2, ![1024, 12544]⟩
abbrev S1x1x12544 : Shape := ⟨3, ![1, 1, 12544]⟩
abbrev S12544 : Shape := ⟨1, ![12544]⟩
abbrev S1x12544 : Shape := ⟨2, ![1, 12544]⟩
abbrev S128x12544 : Shape := ⟨2, ![128, 12544]⟩
abbrev S1024 : Shape := ⟨1, ![1024]⟩
abbrev S1024x1 : Shape := ⟨2, ![1024, 1]⟩
abbrev S100x1024 : Shape := ⟨2, ![100, 1024]⟩
abbrev S1024x100 : Shape := ⟨2, ![1024, 100]⟩

abbrev nBuf : Space → Nat
  | .hbm => 19
  | .vmem => 6
  | .smem => 1
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S100000, .i32⟩
  | .hbm, ⟨3, _⟩ => ⟨S_, .i32⟩
  | .hbm, ⟨4, _⟩ => ⟨S64x1024, .f32⟩
  | .hbm, ⟨5, _⟩ => ⟨S64x100000, .f32⟩
  | .hbm, ⟨6, _⟩ => ⟨S_, .i32⟩
  | .hbm, ⟨7, _⟩ => ⟨S_, .i32⟩
  | .hbm, ⟨8, _⟩ => ⟨S100352, .i32⟩
  | .hbm, ⟨9, _⟩ => ⟨S1x1x100352, .i32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S128x1024, .f32⟩
  | .hbm, ⟨17, _⟩ => ⟨S100x1024, .f32⟩
  | .hbm, ⟨18, _⟩ => ⟨S1024x100, .f32⟩
  | .local _ .vmem, ⟨0, _⟩ => ⟨S64x1024, .f32⟩
  | .local _ .vmem, ⟨1, _⟩ => ⟨S64x12544, .f32⟩
  | .local _ .vmem, ⟨2, _⟩ => ⟨S64x12544, .f32⟩
  | .local _ .vmem, ⟨3, _⟩ => ⟨S1x1x100352, .i32⟩
  | .local _ .vmem, ⟨4, _⟩ => ⟨S128x1024, .f32⟩
  | .local _ .vmem, ⟨5, _⟩ => ⟨S1024x128, .f32⟩
  | .local _ .smem, ⟨0, _⟩ => ⟨S1, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let c0_10 : Index := 0#32
  let c0_11 : Index := 0#32
  let arg0 : BitVec 32 := BitVec.ofNat 32 (i 0).val
  let c12544_i32 : BitVec 32 := 12544#32
  let v23 : BitVec 32 := Scalar.muli arg0 c12544_i32
  let v24 : Index := Scalar.indexCast v23
  ![0, 0, v24.toNat]
def k0_cond3 (i : grid0.Coords) : BitVec 1 :=
  let arg0 : BitVec 32 := BitVec.ofNat 32 (i 0).val
  let c7_i32 : BitVec 32 := 7#32
  let v41 : BitVec 1 := Scalar.cmpi .eq arg0 c7_i32
  let v42 : BitVec 32 := Scalar.extui v41
  let c0_i32_16 : BitVec 32 := 0#32
  let v43 : BitVec 1 := Scalar.cmpi .ne v42 c0_i32_16
  v43

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x12544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x100352 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1024x64 : Shape := ⟨2, ![1024, 64]⟩
abbrev S100000x64 : Shape := ⟨2, ![100000, 64]⟩
abbrev S100000 : Shape := ⟨1, ![100000]⟩
abbrev S_ : Shape := ⟨0, ![]⟩
abbrev S64x100000 : Shape := ⟨2, ![64, 100000]⟩
abbrev S1024x100000 : Shape := ⟨2, ![1024, 100000]⟩
abbrev S100000x1 : Shape := ⟨2, ![100000, 1]⟩
abbrev S1x100 : Shape := ⟨2, ![1, 100]⟩
abbrev S100000x100 : Shape := ⟨2, ![100000, 100]⟩
abbrev S1024x100 : Shape := ⟨2, ![1024, 100]⟩
abbrev S1024 : Shape := ⟨1, ![1024]⟩
abbrev S1024x1 : Shape := ⟨2, ![1024, 1]⟩

abbrev nBuf : Space → Nat
  | .hbm => 57
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S100000, .i32⟩
  | .hbm, ⟨3, _⟩ => ⟨S_, .i32⟩
  | .hbm, ⟨4, _⟩ => ⟨S_, .f32⟩
  | .hbm, ⟨5, _⟩ => ⟨S1024x64, .f32⟩
  | .hbm, ⟨6, _⟩ => ⟨S1024x64, .i1⟩
  | .hbm, ⟨7, _⟩ => ⟨S_, .f32⟩
  | .hbm, ⟨8, _⟩ => ⟨S_, .f32⟩
  | .hbm, ⟨9, _⟩ => ⟨S1024x64, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S100000x64, .f32⟩
  | .hbm, ⟨15, _⟩ => ⟨S100000x64, .i1⟩
  | .hbm, ⟨16, _⟩ => ⟨S_, .f32⟩
  | .hbm, ⟨17, _⟩ => ⟨S_, .f32⟩
  | .hbm, ⟨18, _⟩ => ⟨S100000x64, .f32⟩
  | .hbm, ⟨19, _⟩ => ⟨S100000x64, .f32⟩
  | .hbm, ⟨20, _⟩ => ⟨S100000x64, .f32⟩
  | .hbm, ⟨21, _⟩ => ⟨S100000x64, .f32⟩
  | .hbm, ⟨22, _⟩ => ⟨S64x100000, .f32⟩
  | .hbm, ⟨23, _⟩ => ⟨S1024x100000, .f32⟩
  | .hbm, ⟨24, _⟩ => ⟨S_, .f32⟩
  | .hbm, ⟨25, _⟩ => ⟨S1024x100000, .f32⟩
  | .hbm, ⟨26, _⟩ => ⟨S1024x100000, .f32⟩
  | .hbm, ⟨27, _⟩ => ⟨S_, .f32⟩
  | .hbm, ⟨28, _⟩ => ⟨S1024x100000, .f32⟩
  | .hbm, ⟨29, _⟩ => ⟨S1024x100000, .f32⟩
  | .hbm, ⟨30, _⟩ => ⟨S_, .f32⟩
  | .hbm, ⟨31, _⟩ => ⟨S1024x100000, .f32⟩
  | .hbm, ⟨32, _⟩ => ⟨S1024x100000, .i1⟩
  | .hbm, ⟨33, _⟩ => ⟨S1024x100000, .f32⟩
  | .hbm, ⟨34, _⟩ => ⟨S100000x1, .i32⟩
  | .hbm, ⟨35, _⟩ => ⟨S1x100, .i32⟩
  | .hbm, ⟨36, _⟩ => ⟨S100000x100, .i32⟩
  | .hbm, ⟨37, _⟩ => ⟨S100000x100, .i32⟩
  | .hbm, ⟨38, _⟩ => ⟨S100000x100, .i1⟩
  | .hbm, ⟨39, _⟩ => ⟨S100000x100, .f32⟩
  | .hbm, ⟨40, _⟩ => ⟨S1024x100, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S_, .f32⟩
  | .hbm, ⟨45, _⟩ => ⟨S1024x1, .f32⟩
  | .hbm, ⟨46, _⟩ => ⟨S1024x1, .i1⟩
  | .hbm, ⟨47, _⟩ => ⟨S_, .f32⟩
  | .hbm, ⟨48, _⟩ => ⟨S1024x1, .f32⟩
  | .hbm, ⟨49, _⟩ => ⟨S1024x1, .f32⟩
  | .hbm, ⟨50, _⟩ => ⟨S1024x100, .f32⟩
  | .hbm, ⟨51, _⟩ => ⟨S1024x100, .f32⟩
  | .hbm, ⟨52, _⟩ => ⟨S_, .f32⟩
  | .hbm, ⟨53, _⟩ => ⟨S_, .f32⟩
  | .hbm, ⟨54, _⟩ => ⟨S1024x100, .i1⟩
  | .hbm, ⟨55, _⟩ => ⟨S1024x100, .f32⟩
  | .hbm, ⟨56, _⟩ => ⟨S1024x100, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_cst_4 : Ref sig .tc := ⟨.hbm, 17, rfl⟩
abbrev main_call1_v0 : Ref sig .tc := ⟨.hbm, 18, rfl⟩
abbrev main_call1_v1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_5 : Ref sig .tc := ⟨.hbm, 24, rfl⟩
abbrev main_v10 : Ref sig .tc := ⟨.hbm, 25, rfl⟩
abbrev main_v11 : Ref sig .tc := ⟨.hbm, 26, rfl⟩
abbrev main_cst_6 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v18 : Ref sig .tc := ⟨.hbm, 39, rfl⟩
abbrev main_v19 : Ref sig .tc := ⟨.hbm, 40, rfl⟩
abbrev main_cst_7 : Ref sig .tc := ⟨.hbm, 41, rfl⟩
abbrev main_v20 : Ref sig .tc := ⟨.hbm, 42, rfl⟩
abbrev main_v21 : Ref sig .tc := ⟨.hbm, 43, rfl⟩
abbrev main_cst_8 : Ref sig .tc := ⟨.hbm, 44, rfl⟩
abbrev main_v22 : Ref sig .tc := ⟨.hbm, 45, rfl⟩
abbrev main_v23 : Ref sig .tc := ⟨.hbm, 46, rfl⟩
abbrev main_cst_9 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_10 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v28 : Ref sig .tc := ⟨.hbm, 56, rfl⟩

abbrev nD : Nat := 1
abbrev τ : Topo := Topo.v7x

variable {F : FTy → Type} [FloatOps F]
-- ==== Proof.Body.lean ====
/- The kernel's frame at any interpretation of the floats: every run of the program ends, its arguments are unchanged and
   every semaphore counter is at zero. The last block of the codes overhangs its array and the accumulator takes in what the
   staging buffer held there, so nothing is said here of the result: its window is forgotten, the accumulator is at some
   contents. -/
module

public import proofs.«01_k».proof.Proof.Step
public import proofs.«01_k».proof.Proof.Gen.Kernel.Points

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The codes' block as the staging buffer is stated to hold it: the part inside the array, and a filler past its end. -/
def codes (c : Dev nD) (t : Fin cfg0.N) : S64x12544.Idx → Elt F .f32 :=
  win0_2.fill (grid0.coords t) (fun _ => Scalar.ofBits .f32 0#32) (iblk m c 2 t)

/-- The proof data: the arrays as the region finds them, each input's buffer at its block, the result's at contents nothing
    names, the accumulator at some contents, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codes m c t
    | ⟨3, _⟩ => iblk m c 3 t
    | ⟨4, _⟩ => Dat.unnamed (cfg := cfg0) (4 : Fin 5) t
  Φ _ := Pipeline.ΦA spec0 c
  q _ := fullShare
  owed _ := 0

/-- The one window nothing is said of: the result's. -/
def fgt : Fin cfg0.W → Bool := fun w => match w with
  | ⟨0, _⟩ => false
  | ⟨1, _⟩ => false
  | ⟨2, _⟩ => false
  | ⟨3, _⟩ => false
  | ⟨4, _⟩ => true

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = codes m c t := by dsimp only [dats]
theorem after_3 (c : Dev nD) (t : Fin cfg0.N) : (dats m 0 c).after 3 t = iblk m c 3 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_3 (c : Dev nD) (t : Fin cfg0.N) (d) : (dats m 0 c).before 3 t d = iblk m c 3 t :=
  before0_3_of m (dats m 0 c) (A_eq m c 3) (after_3 m c) t d
/-- The codes' buffer, fetched at every point: the block inside the array, anything past its end. -/
theorem before_2 (c : Dev nD) (t : Fin cfg0.N) (d) :
    (dats m 0 c).before 2 t d = win0_2.fill (grid0.coords t) d (iblk m c 2 t) := by
  unfold Dat.before; rw [if_pos (fetch0_2 t)]; rfl

/-- The accumulator as the body is handed it. -/
abbrev acc : Memref sig .tc .vmem S1024x128 .f32 := Memref.whole cc0_scratch0

theorem PhiA_eq (c : Dev nD) :
    (Pipeline.ΦA spec0 c : sProp 𝕄)
      = iprop(iprop((∃ d, owns (c : Thread nD τ) acc fullShare d)) ∗ (∃ r, prngReg c r)) := by
  unfold Pipeline.ΦA; rw [scopedRest0_eq]; simp only [acc, owns_whole]; try rfl

/-- The body table's row at point `t`'s slots is the body. -/
theorem row (t : Fin cfg0.N) : defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ fgt := fun t => by
  rw [bigSep_W0, bigSep_W0, row]
  simp only [fgt]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before_0, before_1, before_2, before_3]
  iintro ⟨⟨⟨%a, HS⟩, Hg⟩, Ho, ⟨%d0, H0⟩, ⟨%d1, H1⟩, ⟨%d2, H2⟩, ⟨%d3, H3⟩, ⟨%x4, H4⟩⟩
  unfold bodyAt0
  iapply (Step.run (F := F) c (grid0.coords t) _ _ _ _ _ _ _ _ _ _ acc (Memref.isWhole_whole _) (Step.met t)
    (iblk m c 0 t) (iblk m c 1 t) (win0_2.fill (grid0.coords t) d2 (iblk m c 2 t)) (iblk m c 3 t) x4 a Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexists _; iexact HS
    iexact Hg
  isplitl [Ho]; · iexact Ho
  isplitl [H0]; · iexact H0
  isplitl [H1]; · iexact H1
  isplitl [H2]
  · iexists d2
    rw [show win0_2.cut (grid0.coords t) ((dats m 0 c).after 2 t) = iblk m c 2 t from win0_2.cut_fill _ _ _]
    iexact H2
  isplitl [H3]; · iexact H3
  iexists _; iexact H4

/-- The two buffers the lines after the region write. -/
def tail : Finset (Ref sig .tc) := {main_v9, main_v10}

theorem tail_writes : ∀ ops ∈ ([hostOps1] : List (List (HloOp τ sig (Elt F)))), ∀ op ∈ ops, ∀ b : Ref sig .tc,
    Proc.devRef .tc b ∈ op.writes → b ∈ tail := by
  intro ops hops op hop b hb
  simp only [List.mem_cons, List.mem_nil_iff, or_false] at hops
  rcases hops with rfl
  simp only [hostOps1, List.mem_cons, List.mem_nil_iff, or_false] at hop
  rcases hop with rfl | rfl <;>
  · simp only [StableHlo.unary_writes, Finset.mem_singleton] at hb
    have := Proc.devRef_injective _ hb
    subst this
    decide

set_option backward.isDefEq.respectTransparency.types false in
set_option maxHeartbeats 800000 in
/-- THE LAUNCH: every run ends with each array no window writes and each buffer the later lines do not write as the region
    found it, and every counter at zero. -/
theorem run_main : θ_run defs (onTc (τ := τ) (main (F := F))) (s₀ m ρ)
    (fun r => Pipeline.RDat.FramePostR cfg0 (fun c => (dats m 0 c).toRForget fgt) tail (fun c b => V m c b) r ∧ r.2.sem = fun _ => 0) :=
  Pipeline.θ_run_frame_around_T_forget (Q' := _) cfgs (dats m) (0 : Fin 1) launch0 defs₀ Variants.none fgt tail m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (Finset.mem_sdiff.mpr ⟨Pipeline.mem_restRefs_of main_arg0 (by decide) (by decide), by decide⟩)).trans (V_main_arg0 m c),
     ((h.1 c).2 main_arg1 (Finset.mem_sdiff.mpr ⟨Pipeline.mem_restRefs_of main_arg1 (by decide) (by decide), by decide⟩)).trans (V_main_arg1 m c),
     ((h.1 c).2 main_arg2 (Finset.mem_sdiff.mpr ⟨Pipeline.mem_restRefs_of main_arg2 (by decide) (by decide), by decide⟩)).trans (V_main_arg2 m c),
     ((h.1 c).2 main_arg3 (Finset.mem_sdiff.mpr ⟨Pipeline.mem_restRefs_of main_arg3 (by decide) (by decide), by decide⟩)).trans (V_main_arg3 m c)⟩,
    h.2⟩) (run_main m ρ)

end Cert.Kernel.Body

end
-- ==== Proof.StepIdeal.lean ====
/- One run of the kernel's body, as a triple: from the staging buffers and the accumulator at given contents to the
   accumulator one block further (`next`) and, at the last point, the result block (`left`). The facts hold at any
   interpretation of the floats. -/
module

public import proofs.«01_k».proof.Proof.Gen.KernelIdeal.Frame
public import proofs.«01_k».proof.Proof.Gen.KernelIdeal.Skeleton
public import Idealize.ShloMosaic.Lib.WholeRead
public import Idealize.ShloMosaic.Lib.VecWindow
public import Idealize.ShloMosaic.Lib.Claim

@[expose] public section

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first condition: the point is the grid's first. -/
abbrev isFirst (i : grid0.Coords) : Prop :=
  (Scalar.cmpi .ne (Scalar.extui (Scalar.cmpi .eq (BitVec.ofNat 32 (i 0).val) 0#32)) 0#32) = 1#1
/-- The second: the point is a later one. -/
abbrev isLater (i : grid0.Coords) : Prop :=
  (Scalar.cmpi .ne (Scalar.extui (Scalar.cmpi .sgt (BitVec.ofNat 32 (i 0).val) 0#32)) 0#32) = 1#1
/-- The third: the point is the grid's last. -/
abbrev isLast (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem isLater_iff : ∀ t : Fin cfg0.N, isLater (grid0.coords t) ↔ 1 ≤ t.val :=
  (by decide +kernel : ∀ t : Fin grid0.N, isLater (grid0.coords t) ↔ 1 ≤ t.val)
theorem isLast_iff : ∀ t : Fin cfg0.N, isLast (grid0.coords t) ↔ t.val = 7 :=
  (by decide +kernel : ∀ t : Fin grid0.N, isLast (grid0.coords t) ↔ t.val = 7)

/-- The labels the body reads at point `i`: the block's stretch of the padded label row. -/
def labels (i : grid0.Coords) (x3 : Vec F S1x1x100352 .i32) : Vec F S1x1x12544 .i32 := fun x =>
  x3 ((Rect.unit (s := S1x1x100352) (k0_off1 i) S1x1x12544.size (k0_off1_inb i)).toLoadRect.idx x)

/-- The one word of the threshold row. -/
def word (x0 : Vec F S1 .f32) : Elt F .f32 := x0 (Shape.Idx.first (s := S1) (by decide))

/-- The block's contribution to the counts. -/
def part (i : grid0.Coords) (x0 : Vec F S1 .f32) (x1 : Vec F S64x1024 .f32) (x2 : Vec F S64x12544 .f32)
    (x3 : Vec F S1x1x100352 .i32) : FVec F S1024x128 .f32 :=
  k0_pay3 x1 x2 (word x0) (labels i x3)

/-- The accumulator after the body: started at the first point, added to at a later one. -/
def next (i : grid0.Coords) (x0 : Vec F S1 .f32) (x1 : Vec F S64x1024 .f32) (x2 : Vec F S64x12544 .f32)
    (x3 : Vec F S1x1x100352 .i32) (a : Vec F S1024x128 .f32) : Vec F S1024x128 .f32 :=
  if isLater i then addf a (part i x0 x1 x2 x3) else part i x0 x1 x2 x3

/-- The result's buffer after the body: untouched before the last point, there the normalised counts. -/
def left (i : grid0.Coords) (x0 : Vec F S1 .f32) (x1 : Vec F S64x1024 .f32) (x2 : Vec F S64x12544 .f32)
    (x3 : Vec F S1x1x100352 .i32) (x4 : Vec F S128x1024 .f32) (a : Vec F S1024x128 .f32) : Vec F S128x1024 .f32 :=
  if isLast i then k0_pay2 (next i x0 x1 x2 x3 a) else x4

/-- The three combinations of the conditions that points meet. -/
def Met (i : grid0.Coords) : Prop :=
  (isFirst i ∧ ¬isLater i ∧ ¬isLast i) ∨ (¬isFirst i ∧ isLater i ∧ ¬isLast i) ∨ (¬isFirst i ∧ isLater i ∧ isLast i)

theorem met (t : Fin cfg0.N) : Met (grid0.coords t) := by
  have h8 : t.val < 8 := lt_of_lt_of_eq t.isLt N_0
  unfold Met
  rw [isFirst_iff, isLater_iff, isLast_iff]
  omega

/-- What a later point stores into the accumulator: the sum. -/
theorem pay1_eq (v a : FVec F S1024x128 .f32) : k0_pay1 v a = addf a v := shapeCast_self _ _

/-- What the first point stores: the contribution. -/
theorem pay4_eq (x1 : Vec F S64x1024 .f32) (x2 : Vec F S64x12544 .f32) (w : Elt F .f32) (l : Vec F S1x1x12544 .i32) :
    k0_pay4 x1 x2 w l = k0_pay3 x1 x2 w l := shapeCast_self _ _

section Read

variable {sp : Space} {s : Shape} {e : EltTy} {M : Memref sig .tc sp s e}

/-- A load of a whole buffer reads its contents. -/
theorem load_whole (h : M.IsWhole) {off : Fin s.rank → ℕ} (inb : ∀ a, off a + s.size a ≤ s.size a) (X : s.Idx → Elt F e) :
    M.view.readAt (Elt F) (Rect.unit off s.size inb).toLoadRect (h.unread X) = X :=
  (View.readAt_full _ _ inb).trans (h.read_unread X)

end Read

set_option maxHeartbeats 2000000 in
/-- THE BODY'S RUN at any buffers and contents: the inputs' buffers as they were, the result's at `left`, the
    accumulator at `next`. -/
theorem run (c : Dev nD) (i : grid0.Coords) (arg1 : Memref sig .tc .smem S1 .f32) (harg1 : arg1.IsWhole)
    (arg2 : Memref sig .tc .vmem S64x1024 .f32) (harg2 : arg2.IsWhole) (arg3 : Memref sig .tc .vmem S64x12544 .f32) (harg3 : arg3.IsWhole)
    (arg4 : Memref sig .tc .vmem S1x1x100352 .i32) (harg4 : arg4.IsWhole) (arg5 : Memref sig .tc .vmem S128x1024 .f32) (harg5 : arg5.IsWhole)
    (arg6 : Memref sig .tc .vmem S1024x128 .f32) (harg6 : arg6.IsWhole) (hi : Met i)
    (x0 : Vec F S1 .f32) (x1 : Vec F S64x1024 .f32) (x2 : Vec F S64x12544 .f32) (x3 : Vec F S1x1x100352 .i32)
    (x4 : Vec F S128x1024 .f32) (a : Vec F S1024x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare a
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (left i x0 x1 x2 x3 x4 a)
            ∗ owns (c : Thread nD τ) arg6 fullShare (next i x0 x1 x2 x3 a)) -∗ K ⟨⟩))
      ⊢ wp frame (wpE (defs₀ (F := F)) Variants.none c none) E
          (cc0__fused_body i arg1 harg1 arg2 harg2 arg3 harg3 arg4 harg4 arg5 harg5 arg6 harg6) K := by
  have e1 : View.readAt (Elt F) arg1.view (Rect.unit (s := S1) ![0] S1.size inb_S1_S1_0).toLoadRect (harg1.unread x0)
      (Shape.Idx.first (by decide)) = word x0 := congrFun (load_whole harg1 inb_S1_S1_0 x0) _
  have e2 := load_whole harg2 inb_S64x1024_S64x1024_0_0 x1
  have e3 := load_whole harg3 inb_S64x12544_S64x12544_0_0 x2
  have e4 : View.readAt (Elt F) arg4.view (Rect.unit (s := S1x1x100352) (k0_off1 i) S1x1x12544.size (k0_off1_inb i)).toLoadRect (harg4.unread x3)
      = labels i x3 := funext fun x => harg4.readAt_unread x3 _ x
  have e6 := load_whole harg6 inb_S1024x128_S1024x128_0_0 a
  simp only [cc0__fused_body_eq_skeleton]; unfold cc0__fused_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fa, %hfa, HS⟩, Hk⟩
  obtain rfl := harg1.eq_unread hf0; obtain rfl := harg2.eq_unread hf1
  obtain rfl := harg3.eq_unread hf2; obtain rfl := harg4.eq_unread hf3
  obtain rfl := harg6.eq_unread hfa
  rcases hi with ⟨hc0, hc1, hc2⟩ | ⟨hc0, hc1, hc2⟩ | ⟨hc0, hc1, hc2⟩
  all_goals
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr
      swap; · iexact H4
      ipureintro
      unfold left next
      first
      | exact hf4.trans (if_neg hc2).symm
      | rw [if_pos hc2, if_pos hc1]
        refine (View.read_writes_full _ _ _ _ _).trans (congrArg k0_pay2 ?_)
        sl_unfold_run_names
        refine (View.readCov_full _ _ _ _ _).trans ?_
        rw [pay1_eq, e1]; rfl
    · iexists _; isplitr
      swap; · iexact HS
      ipureintro
      unfold next
      sl_unfold_run_names
      refine (View.read_writes_full _ _ _ _ _).trans ?_
      first
      | rw [if_neg hc1]
        rw [pay4_eq, e1]; rfl
      | rw [if_pos hc1]
        rw [pay1_eq, e1]; rfl

end Cert.KernelIdeal.Step

end
-- ==== Proof.Counts.lean ====
/- The mathematics both programs compute, over the extended reals and free of either program: the sign of a code's entry,
   the sum of sign products of two codes, one code's share of a class count, the count, and the class probability. The two
   forms of the Hamming threshold, on the sum of products and on the distance, are one condition. -/
module

public import Idealize.ShloMosaic.Lib.Pointwise
public import Idealize.ShloMosaic.Lib.IdealHost

@[expose] public section

set_option maxRecDepth 16384

noncomputable section

namespace Cert.Counts

open Idealize.ShloMosaic

/-- The sign a code's entry is replaced by. -/
def sgn (v : EReal) : ℝ := if 0 ≤ v then 1 else -1

/-- The sum of the sign products of two codes of 64 entries. -/
def dot (a b : Fin 64 → EReal) : ℝ := ∑ k, sgn (a k) * sgn (b k)

/-- The threshold on that sum: 64 less twice the distance allowed. -/
def bound (thr : BitVec 32) : ℝ := 64 - 2 * (thr.toInt : ℝ)

open Classical in
/-- One code's share of the count of class `c`: 1 if the code is near and its label is `c`, else 0. -/
def cell (a b : Fin 64 → EReal) (thr l : BitVec 32) (c : ℕ) : EReal :=
  (if bound thr ≤ dot a b then 1 else 0) * (if l = BitVec.ofNat 32 c then 1 else 0)

/-- The share of code number `n` of an array of `N` codes: nothing past the array's end. -/
def term {N : ℕ} (a : Fin 64 → EReal) (D : Fin N → Fin 64 → EReal) (thr : BitVec 32) (L : Fin N → BitVec 32) (c n : ℕ) : EReal :=
  if h : n < N then cell a (D ⟨n, h⟩) thr (L ⟨n, h⟩) c else 0

/-- The count of class `c` over all codes. -/
def count {N : ℕ} (a : Fin 64 → EReal) (D : Fin N → Fin 64 → EReal) (thr : BitVec 32) (L : Fin N → BitVec 32) (c : ℕ) : EReal :=
  ∑ n : Fin N, cell a (D n) thr (L n) c

/-- The probability of a count out of a sum of counts, zero where nothing is counted. -/
def prob (n s : EReal) : EReal := if 0 < s then Ideal.div n (max s 1) else 0

theorem ofBits_neg_one : Ideal.ofBits .f32 0xBF800000#32 = ((-1 : ℝ) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_sixty_four : Ideal.ofBits .f32 0x42800000#32 = ((64 : ℝ) : EReal) := by
  simp [Ideal.ofBits, Ideal.ieee, -EReal.coe_mul]; norm_num

/-- The sign as both programs select it. -/
theorem sgn_select (v : EReal) : (if 0 ≤ v then (1 : EReal) else Ideal.ofBits .f32 0xBF800000#32) = ((sgn v : ℝ) : EReal) := by
  unfold sgn
  split
  · exact EReal.coe_one.symm
  · exact ofBits_neg_one

/-- A sum of products of the selected signs is the real `dot`. -/
theorem dot_select (a b : Fin 64 → EReal) :
    (∑ k, (if 0 ≤ a k then (1 : EReal) else Ideal.ofBits .f32 0xBF800000#32)
      * (if 0 ≤ b k then (1 : EReal) else Ideal.ofBits .f32 0xBF800000#32)) = ((dot a b : ℝ) : EReal) := by
  simp only [sgn_select]
  unfold dot
  simp only [← EReal.coe_mul]
  induction (Finset.univ : Finset (Fin 64)) using Finset.induction_on with
  | empty => simp
  | insert k s hk ih => rw [Finset.sum_insert hk, Finset.sum_insert hk, ih, ← EReal.coe_add]

/-- The kernel's threshold word. -/
theorem bound_word (thr : BitVec 32) :
    Ideal.ofBits .f32 0x42800000#32 - Ideal.ofBits .f32 0x40000000#32 * ((thr.toInt : ℝ) : EReal) = ((bound thr : ℝ) : EReal) := by
  rw [ofBits_sixty_four, ofBits_two, ← EReal.coe_mul, ← EReal.coe_sub]; rfl

/-- The reference's condition on the distance is the kernel's on the sum of products. -/
theorem near_iff (d : ℝ) (thr : BitVec 32) :
    (Ideal.ofBits .f32 0x42800000#32 - ((d : ℝ) : EReal)) * Ideal.ofBits .f32 0x3F000000#32 ≤ ((thr.toInt : ℝ) : EReal)
      ↔ bound thr ≤ d := by
  rw [ofBits_sixty_four, ofBits_half, ← EReal.coe_sub, ← EReal.coe_mul, EReal.coe_le_coe_iff]
  unfold bound
  constructor <;> intro h <;> linarith

open Classical in
/-- A condition's bit, widened and read signed. -/
theorem sitofp_bit (p : Prop) [Decidable p] :
    (FloatOps.sitofp (F := Ideal) .f32 (BitVec.setWidth 32 (BitVec.ofBool (decide p))) : EReal) = if p then 1 else 0 := by
  show ((((BitVec.setWidth 32 (BitVec.ofBool (decide p))).toInt : ℤ) : ℝ) : EReal) = _
  by_cases h : p
  · rw [if_pos h, decide_eq_true h, show (BitVec.setWidth 32 (BitVec.ofBool true)).toInt = 1 by decide]; norm_num
  · rw [if_neg h, decide_eq_false h, show (BitVec.setWidth 32 (BitVec.ofBool false)).toInt = 0 by decide]; norm_num

open Classical in
/-- A condition's bit, read unsigned. -/
theorem uitofp_bit (p : Prop) [Decidable p] :
    (FloatOps.uitofp (F := Ideal) .f32 (BitVec.ofBool (decide p)) : EReal) = if p then 1 else 0 := by
  show ((((BitVec.ofBool (decide p)).toNat : ℕ) : ℝ) : EReal) = _
  by_cases h : p
  · rw [if_pos h, decide_eq_true h, show (BitVec.ofBool true).toNat = 1 by decide]; norm_num
  · rw [if_neg h, decide_eq_false h, show (BitVec.ofBool false).toNat = 0 by decide]; norm_num

/-- An equality of words as the condition's bit. -/
theorem cmpi_eq_bit (x y : BitVec 32) : IntOp.cmpi .eq x y = BitVec.ofBool (decide (x = y)) := by
  unfold IntOp.cmpi
  by_cases h : x = y
  · simp [h]
  · rw [decide_eq_false h]; exact congrArg BitVec.ofBool (beq_eq_false_iff_ne.mpr h)

open Classical in
/-- The kernel's product of a code's two bits. -/
theorem cell_kernel (a b : Fin 64 → EReal) (thr l : BitVec 32) (c : ℕ) :
    (FloatOps.sitofp (F := Ideal) .f32 (BitVec.setWidth 32 (BitVec.ofBool (decide (((bound thr : ℝ) : EReal) ≤ ((dot a b : ℝ) : EReal))))) : EReal)
      * FloatOps.sitofp (F := Ideal) .f32 (BitVec.setWidth 32 (IntOp.cmpi .eq l (BitVec.ofNat 32 c))) = cell a b thr l c := by
  rw [cmpi_eq_bit, sitofp_bit, sitofp_bit]
  unfold cell
  simp only [EReal.coe_le_coe_iff]

open Classical in
/-- The reference's product of a code's two bits: its condition is on the distance, half of 64 less the sum of products. -/
theorem cell_reference (a b : Fin 64 → EReal) (thr l : BitVec 32) (c : ℕ) :
    (FloatOps.uitofp (F := Ideal) .f32 (BitVec.ofBool (decide ((Ideal.ofBits .f32 0x42800000#32
        - ∑ k, (if 0 ≤ a k then (1 : EReal) else Ideal.ofBits .f32 0xBF800000#32)
            * (if 0 ≤ b k then (1 : EReal) else Ideal.ofBits .f32 0xBF800000#32))
          * Ideal.ofBits .f32 0x3F000000#32 ≤ FloatOps.sitofp (F := Ideal) .f32 thr))) : EReal)
      * FloatOps.uitofp (F := Ideal) .f32 (IntOp.cmpi .eq l (BitVec.ofNat 32 c)) = cell a b thr l c := by
  rw [cmpi_eq_bit, uitofp_bit, uitofp_bit, dot_select]
  exact congrArg (· * _) (if_congr (near_iff (dot a b) thr) rfl rfl)

/-- A label that is no class contributes nothing, whatever the code. -/
theorem cell_other (a b : Fin 64 → EReal) (thr l : BitVec 32) (c : ℕ) (h : l ≠ BitVec.ofNat 32 c) : cell a b thr l c = 0 := by
  unfold cell; rw [if_neg h, mul_zero]

/-- A whole count is the sum of the shares over any range that reaches the array's end. -/
theorem sum_term {N M : ℕ} (hM : N ≤ M) (a : Fin 64 → EReal) (D : Fin N → Fin 64 → EReal) (thr : BitVec 32)
    (L : Fin N → BitVec 32) (c : ℕ) : ∑ n ∈ Finset.range M, term a D thr L c n = count a D thr L c := by
  unfold count
  rw [← Finset.sum_subset (Finset.range_mono hM) (f := term a D thr L c) ?_, ← Fin.sum_univ_eq_sum_range]
  · exact Finset.sum_congr rfl fun n _ => by unfold term; rw [dif_pos n.isLt]
  · intro n _ hn
    unfold term
    rw [dif_neg (fun h => hn (Finset.mem_range.mpr h))]

/-- A class no label names is never counted. -/
theorem count_other {N : ℕ} (a : Fin 64 → EReal) (D : Fin N → Fin 64 → EReal) (thr : BitVec 32) (L : Fin N → BitVec 32)
    (c : ℕ) (h : ∀ n, L n ≠ BitVec.ofNat 32 c) : count a D thr L c = 0 :=
  Finset.sum_eq_zero fun n _ => cell_other _ _ _ _ _ (h n)

/-- With every label below 100, the counts of 128 classes sum to the counts of the first 100. -/
theorem sum_classes {N : ℕ} (a : Fin 64 → EReal) (D : Fin N → Fin 64 → EReal) (thr : BitVec 32) (L : Fin N → BitVec 32)
    (h : ∀ n, (L n).toNat < 100) : ∑ c : Fin 128, count a D thr L c = ∑ c : Fin 100, count a D thr L c := by
  rw [Fin.sum_univ_eq_sum_range (fun c => count a D thr L c) 128, Fin.sum_univ_eq_sum_range (fun c => count a D thr L c) 100]
  refine (Finset.sum_subset (Finset.range_mono (by norm_num)) fun c hc hc' => ?_).symm
  refine count_other _ _ _ _ _ fun n hn => ?_
  have h1 := h n
  have h2 := Finset.mem_range.mp hc
  rw [hn, BitVec.toNat_ofNat] at h1
  rw [Finset.mem_range] at hc'
  omega

end Cert.Counts

end
-- ==== Proof.Reads.lean ====
/- What the kernel's body reads at a grid point, over the program's arguments: the threshold word, the queries' entries, the
   codes' entries inside the array, the labels with -1 past the array's end — and from these one point's contribution to
   the counts, the shares of its stretch of the codes, whatever the staging buffer holds past the codes' end. -/
module

public import proofs.«01_k».proof.Proof.StepIdeal
public import proofs.«01_k».proof.Proof.Gen.KernelIdeal.Points
public import proofs.«01_k».proof.Proof.Counts
public import Idealize.ShloMosaic.Lib.Pointwise
public import Idealize.ShloMosaic.Lib.Pipeline.ValueKit

@[expose] public section

set_option maxRecDepth 16384

noncomputable section

namespace Cert.KernelIdeal.Reads

open Cert.KernelIdeal Cert.KernelIdeal.Gen
open Idealize.ShloMosaic Idealize.ShloMosaic.TcCoe Idealize.SL.Sem

variable (m : (ℓ : Loc nD τ sig) → Buf (Elt Ideal) ℓ)

/-- The queries, the codes, the labels and the distance allowed, as the program is handed them. -/
abbrev X (c : Dev nD) : FVec Ideal S1024x64 .f32 := m ((c : Thread nD τ).loc main_arg0)
abbrev D (c : Dev nD) : FVec Ideal S100000x64 .f32 := m ((c : Thread nD τ).loc main_arg1)
abbrev L (c : Dev nD) : IVec S100000 32 := m ((c : Thread nD τ).loc main_arg2)
abbrev T (c : Dev nD) : IVec S_ 32 := m ((c : Thread nD τ).loc main_arg3)

/-- Query `q`, code `n`, label `n`, the distance allowed, one at a time. -/
abbrev query (c : Dev nD) (q : Fin 1024) : Fin 64 → EReal := fun k => X m c (ix2 q k)
abbrev code (c : Dev nD) (n : Fin 100000) : Fin 64 → EReal := fun k => D m c (ix2 n k)
abbrev label (c : Dev nD) (n : Fin 100000) : BitVec 32 := L m c (ix1 n)
abbrev thr (c : Dev nD) : BitVec 32 := T m c ix0

/-- The arrays the windows read, as the lines before the region leave them. -/
theorem V_v0 (c : Dev nD) : V m c main_v0 = transpose S64x1024 [1, 0] (X m c) transposes_S1024x64_S64x1024_1_0 := by
  entry_read; try rfl
theorem V_v1 (c : Dev nD) : V m c main_v1 = transpose S64x100000 [1, 0] (D m c) transposes_S100000x64_S64x100000_1_0 := by
  entry_read; try rfl
theorem V_v3 (c : Dev nD) : V m c main_v3 = shapeCast S1x1x100352
    (pad S100352 ![0] ![352] ![0] (L m c) (constantI S_ 32 4294967295#32) pads_S100000_S100352_03520 h_S_) shapeCasts_S100352_S1x1x100352 := by
  entry_read; try rfl
theorem V_v7 (c : Dev nD) : V m c main_v7 = shapeCast S1 (subf (constant (F := Ideal) S_ .f32 0x42800000#32)
    (mulf (constant (F := Ideal) S_ .f32 0x40000000#32) (sitofp .f32 (T m c)))) shapeCasts_S_S1 := by
  entry_read; try rfl

/-- The same, read at an index. -/
theorem v0_at (x : FVec Ideal S1024x64 .f32) (k : Fin 64) (q : Fin 1024) :
    transpose S64x1024 [1, 0] x transposes_S1024x64_S64x1024_1_0 (ix2 k q) = x (ix2 q k) := by pointwise
theorem v1_at (x : FVec Ideal S100000x64 .f32) (k : Fin 64) (n : Fin 100000) :
    transpose S64x100000 [1, 0] x transposes_S100000x64_S64x100000_1_0 (ix2 k n) = x (ix2 n k) := by pointwise
theorem v3_at (l : IVec S100000 32) (n : Fin 100352) :
    shapeCast S1x1x100352 (pad S100352 ![0] ![352] ![0] l (constantI S_ 32 4294967295#32) pads_S100000_S100352_03520 h_S_)
      shapeCasts_S100352_S1x1x100352 (ix3 0 0 n) = if h : n.val < 100000 then l (ix1 ⟨n.val, h⟩) else 4294967295#32 := by
  pointwise
theorem v7_at (t : IVec S_ 32) :
    shapeCast S1 (subf (constant (F := Ideal) S_ .f32 0x42800000#32) (mulf (constant (F := Ideal) S_ .f32 0x40000000#32) (sitofp .f32 t)))
      shapeCasts_S_S1 (Shape.Idx.first (s := S1) (by decide)) = ((Counts.bound (t ix0) : ℝ) : EReal) := by
  rw [← Counts.bound_word]
  pointwise
  rfl

/-- The windows' index maps, the codes' cuts and the labels' offset, at every grid point. -/
theorem idx : ∀ t : Fin cfg0.N, win0_0.index t = ![0] ∧ win0_1.index t = ![0, 0] ∧ win0_2.index t = ![0, t.val] ∧ win0_3.index t = ![0, 0, 0] :=
  (by decide +kernel : ∀ t : Fin grid0.N, win0_0.index t = ![0] ∧ win0_1.index t = ![0, 0] ∧ win0_2.index t = ![0, t.val] ∧ win0_3.index t = ![0, 0, 0])
theorem cuts : ∀ t : Fin cfg0.N, win0_2.xsize (grid0.coords t) 0 = 64 ∧ win0_2.xsize (grid0.coords t) 1 = min 12544 (100000 - t.val * 12544) :=
  (by decide +kernel : ∀ t : Fin grid0.N, win0_2.xsize (grid0.coords t) 0 = 64 ∧ win0_2.xsize (grid0.coords t) 1 = min 12544 (100000 - t.val * 12544))
theorem offs : ∀ t : Fin cfg0.N, k0_off1 (grid0.coords t) = ![0, 0, t.val * 12544] :=
  (by decide +kernel : ∀ t : Fin grid0.N, k0_off1 (grid0.coords t) = ![0, 0, t.val * 12544])

theorem word_eq (c : Dev nD) (t : Fin cfg0.N) : Step.word (F := Ideal) (iblk m c 0 t) = ((Counts.bound (thr m c) : ℝ) : EReal) := by
  refine Eq.trans ?_ (v7_at (T m c))
  rw [← V_v7 m c]
  unfold Step.word
  blk_ext [iblk, idx t]

theorem query_at (c : Dev nD) (t : Fin cfg0.N) (k : Fin 64) (q : Fin 1024) :
    (show FVec Ideal S64x1024 .f32 from iblk m c 1 t) (ix2 k q) = X m c (ix2 q k) := by
  refine Eq.trans ?_ (v0_at (X m c) k q)
  rw [← V_v0 m c]
  blk_ext [iblk, idx t]

theorem label_at (c : Dev nD) (t : Fin cfg0.N) (j : Fin 12544) (hn : t.val * 12544 + j.val < 100352) :
    Step.labels (F := Ideal) (grid0.coords t) (iblk m c 3 t) (ix3 0 0 j)
      = if h : t.val * 12544 + j.val < 100000 then label m c ⟨t.val * 12544 + j.val, h⟩ else 4294967295#32 := by
  refine Eq.trans ?_ (v3_at (L m c) ⟨t.val * 12544 + j.val, hn⟩)
  rw [← V_v3 m c]
  unfold Step.labels
  have e : (Rect.unit (s := S1x1x100352) (k0_off1 (grid0.coords t)) S1x1x12544.size (k0_off1_inb (grid0.coords t))).toLoadRect.idx (ix3 0 0 j)
      = (ix3 0 0 ⟨t.val * 12544 + j.val, hn⟩ : S1x1x100352.Idx) := by
    funext a
    refine Fin.ext ?_
    show k0_off1 (grid0.coords t) a + 1 * ((ix3 0 0 j : S1x1x12544.Idx) a).val = _
    rw [offs t]
    fin_cases a
    · rfl
    · rfl
    · show t.val * 12544 + 1 * j.val = t.val * 12544 + j.val
      omega
  refine (congrArg (iblk m c 3 t) e).trans ?_
  blk_ext [iblk, idx t]

theorem code_at (c : Dev nD) (t : Fin cfg0.N) (d : S64x12544.Idx → Elt Ideal .f32) (k : Fin 64) (j : Fin 12544)
    (h : t.val * 12544 + j.val < 100000) :
    (show FVec Ideal S64x12544 .f32 from win0_2.fill (grid0.coords t) d (iblk m c 2 t)) (ix2 k j)
      = D m c (ix2 ⟨t.val * 12544 + j.val, h⟩ k) := by
  refine Eq.trans ?_ (v1_at (D m c) k ⟨t.val * 12544 + j.val, h⟩)
  rw [← V_v1 m c]
  have hm : win0_2.moved (grid0.coords t) (ix2 k j : S64x12544.Idx) = true := by
    rw [Pipeline.Window.moved_iff]
    intro a
    fin_cases a
    · show k.val < win0_2.xsize (grid0.coords t) 0
      rw [(cuts t).1]; exact k.isLt
    · show j.val < win0_2.xsize (grid0.coords t) 1
      rw [(cuts t).2]; have := j.isLt; omega
  refine (dif_pos hm).trans ?_
  blk_ext [iblk, idx t]

/-- The contribution's payload, read at query `q` and class `k`. -/
theorem pay3_at (x1 : FVec Ideal S64x1024 .f32) (x2 : FVec Ideal S64x12544 .f32) (b : BitVec 32) (l : IVec S1x1x12544 32)
    (q : Fin 1024) (k : Fin 128) :
    k0_pay3 (F := Ideal) x1 x2 ((Counts.bound b : ℝ) : EReal) l (ix2 q k)
      = ∑ j : Fin 12544, Counts.cell (fun i => x1 (ix2 i q)) (fun i => x2 (ix2 i j)) b (l (ix3 0 0 j)) k.val := by
  pointwise [k0_pay3]
  refine Finset.sum_congr rfl fun j _ => ?_
  rw [Counts.dot_select (fun i => x1 (ix2 i q)) (fun i => x2 (ix2 i j))]
  exact Counts.cell_kernel _ _ _ _ _

/-- One point's contribution: the shares of its stretch of the codes. -/
theorem part_at (c : Dev nD) (t : Fin cfg0.N) (d : S64x12544.Idx → Elt Ideal .f32) (q : Fin 1024) (k : Fin 128) :
    Step.part (F := Ideal) (grid0.coords t) (iblk m c 0 t) (iblk m c 1 t) (win0_2.fill (grid0.coords t) d (iblk m c 2 t)) (iblk m c 3 t) (ix2 q k)
      = ∑ j ∈ Finset.range 12544, Counts.term (query m c q) (code m c) (thr m c) (label m c) k.val (t.val * 12544 + j) := by
  have h8 : t.val < 8 := lt_of_lt_of_eq t.isLt N_0
  unfold Step.part
  rw [word_eq]
  refine (pay3_at _ _ _ _ q k).trans ?_
  rw [← Fin.sum_univ_eq_sum_range (fun j => Counts.term (query m c q) (code m c) (thr m c) (label m c) k.val (t.val * 12544 + j)) 12544]
  refine Finset.sum_congr rfl fun j _ => ?_
  have hj := j.isLt
  unfold Counts.term
  rw [label_at m c t j (by omega)]
  by_cases h : t.val * 12544 + j.val < 100000
  · rw [dif_pos h, dif_pos h]
    have h1 : (fun i => (show FVec Ideal S64x1024 .f32 from iblk m c 1 t) (ix2 i q)) = query m c q := funext fun i => query_at m c t i q
    have h2 : (fun i => (show FVec Ideal S64x12544 .f32 from win0_2.fill (grid0.coords t) d (iblk m c 2 t)) (ix2 i j))
        = code m c ⟨t.val * 12544 + j.val, h⟩ := funext fun i => code_at m c t d i j h
    exact (congrArg (fun a => Counts.cell a _ _ _ _) h1).trans (congrArg (fun b => Counts.cell _ b _ _ _) h2)
  · rw [dif_neg h, dif_neg h]
    refine Counts.cell_other _ _ _ _ _ fun e => ?_
    have hk : k.val < 128 := k.isLt
    have e' : 4294967295 = k.val % 2 ^ 32 := (congrArg BitVec.toNat e).trans (BitVec.toNat_ofNat _ _)
    rw [Nat.mod_eq_of_lt (by omega)] at e'
    omega

end Cert.KernelIdeal.Reads

end
-- ==== Proof.Exact.lean ====
/- The idealized kernel's run, exactly: after point `n` the accumulator holds the counts over the codes met so far (`tot`),
   so the result's buffer after the last point holds the class probabilities of all of them. -/
module

public import proofs.«01_k».proof.Proof.Reads

@[expose] public section

set_option maxRecDepth 16384

noncomputable section

namespace Cert.KernelIdeal.Exact

open Cert.KernelIdeal Cert.KernelIdeal.Gen Cert.KernelIdeal.Reads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf FramePost)

local notation "𝕄" => MT nD τ sig Unit (Elt Ideal) ℕ (UR sig nD τ) ℕ

variable (m : (ℓ : Loc nD τ sig) → Buf (Elt Ideal) ℓ) (ρ : Dev nD → PrngReg)

/-- The counts over the first `n` blocks of codes. -/
def tot (c : Dev nD) (n : ℕ) : Vec Ideal S1024x128 .f32 := fun x =>
  ∑ i ∈ Finset.range (n * 12544), Counts.term (query m c (x 0)) (code m c) (thr m c) (label m c) (x 1).val i

/-- The accumulator after a point, whatever the codes' buffer holds past the array's end: the counts with that block added;
    what it held before matters only after the first point. -/
theorem next_eq (c : Dev nD) (t : Fin cfg0.N) (d : S64x12544.Idx → Elt Ideal .f32) (a : FVec Ideal S1024x128 .f32)
    (ha : 1 ≤ t.val → a = tot m c t.val) :
    Step.next (F := Ideal) (grid0.coords t) (iblk m c 0 t) (iblk m c 1 t) (win0_2.fill (grid0.coords t) d (iblk m c 2 t)) (iblk m c 3 t) a
      = tot m c (t.val + 1) := by
  funext x
  obtain ⟨q, k, rfl⟩ : ∃ (q : Fin 1024) (k : Fin 128), x = ix2 q k := ⟨x 0, x 1, eq_ix2 x⟩
  unfold Step.next tot
  rw [Nat.add_mul, Nat.one_mul, Finset.sum_range_add]
  by_cases h : 1 ≤ t.val
  · rw [if_pos ((Step.isLater_iff t).mpr h), ha h]
    exact congrArg (tot m c t.val (ix2 q k) + ·) (part_at m c t d q k)
  · rw [if_neg (fun hl => h ((Step.isLater_iff t).mp hl))]
    refine (part_at m c t d q k).trans ?_
    have h0 : t.val = 0 := by omega
    rw [h0, Nat.zero_mul, Finset.range_zero, Finset.sum_empty, zero_add]
    rfl

/-- The codes' block as the staging buffer is stated to hold it: the part inside the array, and a filler past its end. -/
def codes (c : Dev nD) (t : Fin cfg0.N) : S64x12544.Idx → Elt Ideal .f32 :=
  win0_2.fill (grid0.coords t) (fun _ => (0 : EReal)) (iblk m c 2 t)

/-- The accumulator as the body is handed it. -/
abbrev acc : Memref sig .tc .vmem S1024x128 .f32 := Memref.whole cc0_scratch0

/-- The state carried between points: before the first the accumulator at anything, after point `n` at the counts so far. -/
def PhiS (c : Dev nD) : (n : ℕ) → n ≤ cfg0.N → sProp 𝕄
  | 0, _ => Pipeline.ΦA spec0 c
  | n + 1, _ => iprop(owns (c : Thread nD τ) acc fullShare (tot m c (n + 1)) ∗ (∃ r, prngReg c r))

/-- The proof data: the arrays as the region finds them, each input's buffer at its block, the result's at the probabilities
    of all the counts, the accumulator tracked, nothing owed, full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codes m c t
    | ⟨3, _⟩ => iblk m c 3 t
    | ⟨4, _⟩ => k0_pay2 (F := Ideal) (tot m c 8)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = codes m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay2 (F := Ideal) (tot m c 8) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_3 (c : Dev nD) (t : Fin cfg0.N) (d) : (dats m 0 c).before 3 t d = iblk m c 3 t :=
  before0_3_of m (dats m 0 c) (A_eq m c 3) (after_3 m c) t d
/-- The codes' buffer, fetched at every point: the block inside the array, anything past its end. -/
theorem before_2 (c : Dev nD) (t : Fin cfg0.N) (d) :
    (dats m 0 c).before 2 t d = win0_2.fill (grid0.coords t) d (iblk m c 2 t) := by
  unfold Dat.before; rw [if_pos (fetch0_2 t)]; rfl

theorem PhiA_eq (c : Dev nD) :
    (Pipeline.ΦA spec0 c : sProp 𝕄)
      = iprop(iprop((∃ d, owns (c : Thread nD τ) acc fullShare d)) ∗ (∃ r, prngReg c r)) := by
  unfold Pipeline.ΦA; rw [scopedRest0_eq]; simp only [acc, owns_whole]; try rfl

/-- The state before point `t`: the accumulator at some contents, the counts so far after the first point. -/
theorem Phi_castSucc (c : Dev nD) (t : Fin cfg0.N) : (dats m 0 c).Φ t.castSucc
    ⊢ iprop(∃ a, iprop(⌜1 ≤ t.val → a = tot m c t.val⌝ ∗ owns (c : Thread nD τ) acc fullShare a) ∗ (∃ r, prngReg c r)) := by
  obtain ⟨n, hn⟩ := t
  change PhiS m c n _ ⊢ _
  cases n with
  | zero =>
    change Pipeline.ΦA spec0 c ⊢ _
    rw [PhiA_eq]
    iintro ⟨⟨%a, HS⟩, Hg⟩
    iexists a
    isplitl [HS]
    · isplitr
      · ipureintro; intro h; exact absurd h (by norm_num)
      iexact HS
    iexact Hg
  | succ n =>
    change iprop(owns (c : Thread nD τ) acc fullShare (tot m c (n + 1)) ∗ (∃ r, prngReg c r)) ⊢ _
    iintro ⟨HS, Hg⟩
    iexists _
    isplitl [HS]
    · isplitr
      swap; · iexact HS
      ipureintro; intro _; rfl
    iexact Hg

/-- The body table's row at point `t`'s slots is the body. -/
theorem row (t : Fin cfg0.N) : defs₀ (F := Ideal) .tc cfg0.body (cfg0.bodyArgs t (cfg0.slots t)) = bodyAt0 t := by
  unfold defs₀; rw [Defs.onTc_tc]

/-- The result's window is stored only at the last point, and written back only there. -/
theorem idle_4 : ∀ t : Fin cfg0.N, ¬Step.isLast (grid0.coords t) → idle0 4 (grid0.coords t) = true ∧ (win0 4).flush t = false :=
  (by decide +kernel : ∀ t : Fin grid0.N, ¬Step.isLast (grid0.coords t) → idle0 4 (grid0.coords t) = true ∧ (win0 4).flush t = false)
theorem live_4 : ∀ t : Fin cfg0.N, Step.isLast (grid0.coords t) → idle0 4 (grid0.coords t) = false :=
  (by decide +kernel : ∀ t : Fin grid0.N, Step.isLast (grid0.coords t) → idle0 4 (grid0.coords t) = false)

theorem live_0 (t : Fin cfg0.N) : cfg0.idle 0 (cfg0.grid.coords t) = false := rfl
theorem live_1 (t : Fin cfg0.N) : cfg0.idle 1 (cfg0.grid.coords t) = false := rfl
theorem live_2 (t : Fin cfg0.N) : cfg0.idle 2 (cfg0.grid.coords t) = false := rfl
theorem live_3 (t : Fin cfg0.N) : cfg0.idle 3 (cfg0.grid.coords t) = false := rfl

theorem body_obligation (c : Dev nD) :
    BodyObligationLoose (dats m 0 c) (defs₀ (F := Ideal)) Variants.none () Set.univ := fun t => by
  rw [bigSep_W0, bigSep_W0, row]
  simp only [live_0, live_1, live_2, live_3]
  rw [show (dats m 0 c).Φ t.succ
      = iprop(owns (c : Thread nD τ) acc fullShare (tot m c (t.val + 1)) ∗ (∃ r, prngReg c r)) from rfl,
    show (dats m 0 c).owesAt () t.succ = (dats m 0 c).owesAt () t.castSucc from rfl]
  refine (sep_mono (Phi_castSucc m c t) (entails_refl _)).trans ?_
  simp only [before_0, before_1, before_2, before_3]
  iintro ⟨⟨%a, ⟨⟨%ha, HS⟩, Hg⟩⟩, Ho, ⟨%d0, H0⟩, ⟨%d1, H1⟩, ⟨%d2, H2⟩, ⟨%d3, H3⟩, ⟨%x4, H4⟩⟩
  unfold bodyAt0
  iapply (Step.run (F := Ideal) c (grid0.coords t) _ _ _ _ _ _ _ _ _ _ acc (Memref.isWhole_whole _) (Step.met t)
    (iblk m c 0 t) (iblk m c 1 t) (win0_2.fill (grid0.coords t) d2 (iblk m c 2 t)) (iblk m c 3 t) _ a Set.univ _)
  isplitl [H0]; · iexact H0
  isplitl [H1]; · iexact H1
  isplitl [H2]; · iexact H2
  isplitl [H3]; · iexact H3
  isplitl [H4]; · iexact H4
  isplitl [HS]; · iexact HS
  unfold Step.left
  rw [next_eq m c t d2 a ha]
  iintro ⟨H0, H1, H2, H3, H4, HS⟩
  isplitl [HS Hg]
  · isplitl [HS]
    · iexact HS
    iexact Hg
  isplitl [Ho]; · iexact Ho
  isplitl [H0]; · iexact H0
  isplitl [H1]; · iexact H1
  isplitl [H2]
  · iexists d2
    rw [show win0_2.cut (grid0.coords t) ((dats m 0 c).after 2 t) = iblk m c 2 t from win0_2.cut_fill _ _ _]
    iexact H2
  isplitl [H3]; · iexact H3
  by_cases hl : Step.isLast (grid0.coords t)
  · simp only [live_4 t hl]
    rw [if_pos hl, (Step.isLast_iff t).mp hl]
    iexact H4
  · simp only [(idle_4 t hl).1, (idle_4 t hl).2]
    rw [if_neg hl]
    iexists _; iexact H4

theorem hin (c : Dev nD) : (Pipeline.ΦA spec0 c : sProp 𝕄) ⊢ (dats m 0 c).Φ 0 := entails_refl _

theorem hout (c : Dev nD) : (dats m 0 c).Φ (Fin.last cfg0.N) ⊢ (Pipeline.ΦA spec0 c : sProp 𝕄) := by
  change iprop(owns (c : Thread nD τ) acc fullShare (tot m c 8) ∗ (∃ r, prngReg c r)) ⊢ _
  rw [PhiA_eq]
  iintro ⟨HS, Hg⟩
  isplitl [HS]
  · iexists _; iexact HS
  iexact Hg

set_option backward.isDefEq.respectTransparency.types false in
set_option maxHeartbeats 800000 in
/-- THE LAUNCH: every run ends with the windows' arrays as the proof data say, the other buffers as the later lines leave
    them, and every counter at zero. -/
theorem run_main : θ_run defs (onTc (τ := τ) (main (F := Ideal))) (s₀ m ρ)
    (fun r => FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Exact

end
-- ==== Proof.Result.lean ====
/- The kernel's result: the array the region writes, and the slice and transpose of it that @main returns, read at one query
   and one class. -/
module

public import proofs.«01_k».proof.Proof.Exact
public import Idealize.ShloMosaic.Lib.Claim

@[expose] public section

set_option maxRecDepth 16384

noncomputable section

namespace Cert.KernelIdeal.Result

open Cert.KernelIdeal Cert.KernelIdeal.Gen Cert.KernelIdeal.Reads Cert.KernelIdeal.Exact
open Idealize.ShloMosaic Idealize.ShloMosaic.TcCoe Idealize.ShloMosaic.Tactic
open Idealize.SL.Sem
open Idealize.ShloMosaic.Pipeline (Dat Cfg Window FramePost)

variable (m : (ℓ : Loc nD τ sig) → Buf (Elt Ideal) ℓ) (ρ : Dev nD → PrngReg)

/-- The array of the result's window once the region is done: the probabilities, classes by queries. -/
theorem array (c : Dev nD) : (dats m 0 c).arrAt 4 cfg0.N = k0_pay2 (F := Ideal) (tot m c 8) := by
  refine (dats m 0 c).arrAt_eq_of_after_last 4 t0_7 (by decide +kernel) _ fun j => ?_
  blk_simp
  rw [after_4]

/-- What @main returns, the later lines computed. -/
theorem tail (c : Dev nD) : Pipeline.afterTail₀ cfgs (dats m) 0 (V0 m) [hostOps1] c main_v10
    = transpose S1024x100 [1, 0] (extractStridedSlice S100x1024 ![0, 0] (k0_pay2 (F := Ideal) (tot m c 8)) (by decide)) (by decide) := by
  unfold Pipeline.afterTail₀
  rw [List.flatten_cons, List.flatten_nil, List.append_nil]
  unfold hostOps1
  after_results
  have h := (Pipeline.withArrays_arr spec0 winFacts0.arr_inj c (V0 m c) (fun w => (dats m 0 c).arrAt w cfg0.N) 4).trans (array m c)
  exact congrArg (fun x => transpose S1024x100 [1, 0] (extractStridedSlice S100x1024 ![0, 0] x _) _) h

/-- THE KERNEL AT ONE INDEX. -/
theorem result_at (c : Dev nD) (q : Fin 1024) (k : Fin 100) :
    (Pipeline.afterTail₀ cfgs (dats m) 0 (V0 m) [hostOps1] c main_v10 (ix2 q k) : EReal)
      = Counts.prob (Counts.count (query m c q) (code m c) (thr m c) (label m c) k)
          (∑ x : Fin 128, Counts.count (query m c q) (code m c) (thr m c) (label m c) x) := by
  rw [tail]
  pointwise [k0_pay2]
  have h : ∀ x : Fin 128, tot m c 8 (ix2 q x) = Counts.count (query m c q) (code m c) (thr m c) (label m c) x :=
    fun x => Counts.sum_term (by norm_num) _ _ _ _ _
  simp only [h]
  rfl

/-- THE RUN, with what it returns: the later lines' value of the result, the arguments unchanged. -/
theorem run : θ_run defs (onTc (τ := τ) (main (F := Ideal))) ⟨m, fun _ => 0, ρ⟩ (fun r => ∀ c : Dev nD,
      r.2.mem ((c.tc : Thread nD τ).loc main_v10) = Pipeline.afterTail₀ cfgs (dats m) 0 (V0 m) [hostOps1] c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun r h c => ⟨(h.1.1 c).2 main_v10 (Pipeline.mem_restRefs_of main_v10 (by decide) (by decide)), h.2.1 c⟩)
    (θ_run_and (run_main m ρ) (frame m ρ))

end Cert.KernelIdeal.Result

end
-- ==== Proof.RefValue.lean ====
/- The reference's result, read at one query and one class: the probability of that class's count among the counts of the
   hundred classes; its run with every counter at zero; and the bounds on the labels the precondition states. -/
module

public import proofs.«01_k».proof.Proof.Counts
public import proofs.«01_k».proof.Proof.Gen.ReferenceIdeal.Run
public import proofs.«01_k».proof.Proof.Gen.Pre_labels_in_range
public import Idealize.ShloMosaic.Lib.Pointwise
public import Idealize.ShloMosaic.Lib.ReduceAll
public import Idealize.ShloMosaic.Lib.Claim

@[expose] public section

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.ShloMosaic.Tactic Idealize.SL.Sem

variable (m : (ℓ : Loc nD τ sig) → Buf (Elt Ideal) ℓ) (ρ : Dev nD → PrngReg)

/-- The arguments, and one query, one code, one label and the threshold read off them. -/
abbrev X (c : Dev nD) : FVec Ideal S1024x64 .f32 := m ((c : Thread nD τ).loc main_arg0)
abbrev D (c : Dev nD) : FVec Ideal S100000x64 .f32 := m ((c : Thread nD τ).loc main_arg1)
abbrev L (c : Dev nD) : IVec S100000 32 := m ((c : Thread nD τ).loc main_arg2)
abbrev T (c : Dev nD) : IVec S_ 32 := m ((c : Thread nD τ).loc main_arg3)
abbrev query (c : Dev nD) (q : Fin 1024) : Fin 64 → EReal := fun k => X m c (ix2 q k)
abbrev code (c : Dev nD) (n : Fin 100000) : Fin 64 → EReal := fun k => D m c (ix2 n k)
abbrev label (c : Dev nD) (n : Fin 100000) : BitVec 32 := L m c (ix1 n)
abbrev thr (c : Dev nD) : BitVec 32 := T m c ix0

/-- THE REFERENCE AT ONE INDEX. -/
theorem result_at (c : Dev nD) (q : Fin 1024) (k : Fin 100) :
    (res_main_v28 m c (ix2 q k) : EReal)
      = Counts.prob (Counts.count (query m c q) (code m c) (thr m c) (label m c) k)
          (∑ x : Fin 100, Counts.count (query m c q) (code m c) (thr m c) (label m c) x) := by
  pointwise [res_main_v28, id_eq]
  have h (x : ℕ) := Finset.sum_congr (rfl : (Finset.univ : Finset (Fin 100000)) = Finset.univ) fun n _ =>
    Counts.cell_reference (query m c q) (code m c n) (thr m c) (label m c n) x
  exact congrArg₂ Counts.prob (h k) (Finset.sum_congr rfl fun x _ => h x)

/-- THE FRAME. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (run m ρ)

/-- What the precondition says of each label: it is below a hundred. -/
theorem labels_lt (x : FVec Ideal S1024x64 .f32) (d : FVec Ideal S100000x64 .f32) (l : IVec S100000 32) (t : IVec S_ 32)
    (h : Cert.Pre_labels_in_range.fn (F := Ideal) x d l t = fun _ => 1#1) (n : Fin 100000) : (l (ix1 n)).toNat < 100 := by
  have h1 := Host.reduce_andi_all _ _ _ _ _ (congrFun h ix0) (ix1 n)
  have h2 : IntOp.andi (IntOp.cmpi .sge (l (ix1 n)) 0#32) (IntOp.cmpi .slt (l (ix1 n)) 100#32) = 1#1 := h1
  obtain ⟨hge, hlt⟩ := IntOp.andi_eq_one.mp h2
  have h3 := IntOp.cmpi_sge.mp hge
  have h4 := IntOp.cmpi_slt.mp hlt
  rw [show (0#32 : BitVec 32).toInt = 0 by decide] at h3
  rw [show (100#32 : BitVec 32).toInt = 100 by decide] at h4
  have h5 := (l (ix1 n)).isLt
  rw [BitVec.toInt_eq_toNat_cond] at h3 h4
  split at h3 <;> split at h4 <;> omega

end Cert.ReferenceIdeal.RefValue

end
-- ==== Proof.lean ====
/- The certificate's claim: the kernel and its idealization run to the end and leave their arguments and every counter as
   they were, so does the reference, and over the extended reals the kernel returns exactly what the reference returns
   whenever every label is one of the hundred classes. -/
module

public import proofs.«01_k».proof.Defs
public import proofs.«01_k».proof.Proof.Body
public import proofs.«01_k».proof.Proof.Result
public import proofs.«01_k».proof.Proof.RefValue
public import proofs.«01_k».proof.Proof.Gen.Kernel
public import proofs.«01_k».proof.Proof.Gen.KernelIdeal
public import proofs.«01_k».proof.Proof.Gen.ReferenceIdeal
public import proofs.«01_k».proof.Proof.Gen.Pre_labels_in_range

@[expose] public section

set_option maxRecDepth 16384

noncomputable section

namespace Cert.Proof

open Idealize.ShloMosaic Idealize.ShloMosaic.Tactic Idealize.SL.Sem

/-- THE VALUE. The kernel divides by the sum of its 128 class counts, the reference by the sum of the first hundred: the
    two are one sum because no label names a class past the hundredth. -/
theorem algebraic : Cert.algebraic_KernelIdeal_ReferenceIdeal_pre_labels_in_range := by
  intro m g m' g' hpre hagree
  refine ⟨_, Cert.KernelIdeal.Result.run m g, ?_⟩
  refine (θ_run Cert.ReferenceIdeal.defs _ _).mono (fun r h c => ⟨(h c).1.trans ?_, (h c).2⟩) (Cert.ReferenceIdeal.Value.run m' g')
  obtain ⟨h0, h1, h2, h3⟩ := hagree c
  have hl : ∀ n : Fin 100000, (Cert.KernelIdeal.Reads.label m c n).toNat < 100 :=
    Cert.ReferenceIdeal.RefValue.labels_lt _ _ _ _ (hpre c)
  have hX : Cert.ReferenceIdeal.RefValue.X m' c = Cert.KernelIdeal.Reads.X m c := h0
  have hD : Cert.ReferenceIdeal.RefValue.D m' c = Cert.KernelIdeal.Reads.D m c := h1
  have hL : Cert.ReferenceIdeal.RefValue.L m' c = Cert.KernelIdeal.Reads.L m c := h2
  have hT : Cert.ReferenceIdeal.RefValue.T m' c = Cert.KernelIdeal.Reads.T m c := h3
  funext x
  obtain ⟨q, k, rfl⟩ : ∃ (q : Fin 1024) (k : Fin 100), x = ix2 q k := ⟨x 0, x 1, eq_ix2 x⟩
  refine (Cert.ReferenceIdeal.RefValue.result_at m' c q k).trans (Eq.trans ?_ (Cert.KernelIdeal.Result.result_at m c q k).symm)
  rw [Counts.sum_classes _ _ _ _ hl]
  unfold Cert.ReferenceIdeal.RefValue.query Cert.ReferenceIdeal.RefValue.code Cert.ReferenceIdeal.RefValue.label
    Cert.ReferenceIdeal.RefValue.thr
  rw [hX, hD, hL, hT]

theorem claim : Cert.Claim :=
  ⟨Cert.Kernel.Gen.facts, Cert.KernelIdeal.Gen.facts, Cert.ReferenceIdeal.Gen.facts, Cert.Pre_labels_in_range.Gen.facts,
    fun m g _ => Cert.Kernel.Body.frame m g,
    fun m g _ => Cert.KernelIdeal.Exact.frame m g,
    fun m g _ => Cert.KernelIdeal.Exact.frame m g,
    fun m g _ => Cert.ReferenceIdeal.RefValue.frame m g,
    fun m g _ => Cert.ReferenceIdeal.RefValue.frame m g,
    trivial,
    algebraic⟩

end Cert.Proof

end
